-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16384x6144 : Shape := ⟨3, ![2, 16384, 6144]⟩
abbrev S2x16384 : Shape := ⟨2, ![2, 16384]⟩
abbrev S6144x160 : Shape := ⟨2, ![6144, 160]⟩
abbrev S2x16384x6 : Shape := ⟨3, ![2, 16384, 6]⟩
abbrev S160x6144 : Shape := ⟨2, ![160, 6144]⟩
abbrev S6x2x16384 : Shape := ⟨3, ![6, 2, 16384]⟩
abbrev S2x160x16384 : Shape := ⟨3, ![2, 160, 16384]⟩
abbrev S2x256x6144 : Shape := ⟨3, ![2, 256, 6144]⟩
abbrev S2x256 : Shape := ⟨2, ![2, 256]⟩
abbrev S6x2x256 : Shape := ⟨3, ![6, 2, 256]⟩
abbrev S2x160x256 : Shape := ⟨3, ![2, 160, 256]⟩
abbrev S160x256 : Shape := ⟨2, ![160, 256]⟩
abbrev S1x256 : Shape := ⟨2, ![1, 256]⟩
abbrev S1x256x6144 : Shape := ⟨3, ![1, 256, 6144]⟩
abbrev S256x6144 : Shape := ⟨2, ![256, 6144]⟩
abbrev S256 : Shape := ⟨1, ![256]⟩
abbrev S1x1x256 : Shape := ⟨3, ![1, 1, 256]⟩
abbrev S1x160x256 : Shape := ⟨3, ![1, 160, 256]⟩
abbrev S2x16384x160 : Shape := ⟨3, ![2, 16384, 160]⟩

abbrev nBuf : Space → Nat
  | .hbm => 13
  | .vmem => 14
  | .smem => 0
  | _ => 0

abbrev bufTy : (tb : Table) → Fin (tcTables nBuf tb) → BufTy
  | .hbm, ⟨0, _⟩ => ⟨S2x16384x6144, .fp8e4m3⟩
  | .hbm, ⟨1, _⟩ => ⟨S2x16384, .f32⟩
  | .hbm, ⟨2, _⟩ => ⟨S6144x160, .bf16⟩
  | .hbm, ⟨3, _⟩ => ⟨S2x16384x6, .i32⟩
  | .hbm, ⟨4, _⟩ => ⟨S2x16384x6, .bf16⟩
  | .hbm, ⟨5, _⟩ => ⟨S160x6144, .bf16⟩
  | .hbm, ⟨6, _⟩ => ⟨S6x2x16384, .i32⟩
  | .hbm, ⟨7, _⟩ => ⟨S6x2x16384, .bf16⟩
  | .hbm, ⟨8, _⟩ => ⟨S2x16384x6144, .bf16⟩
  | .hbm, ⟨9, _⟩ => ⟨S160x6144, .f32⟩
  | .hbm, ⟨10, _⟩ => ⟨S2x160x16384, .f32⟩
  | .hbm, ⟨11, _⟩ => ⟨S6144x160, .f32⟩
  | .hbm, ⟨12, _⟩ => ⟨S2x16384x160, .f32⟩
  | .local _ .vmem, ⟨0, _⟩ => ⟨S2x256x6144, .fp8e4m3⟩
  | .local _ .vmem, ⟨1, _⟩ => ⟨S2x256x6144, .fp8e4m3⟩
  | .local _ .vmem, ⟨2, _⟩ => ⟨S2x256, .f32⟩
  | .local _ .vmem, ⟨3, _⟩ => ⟨S2x256, .f32⟩
  | .local _ .vmem, ⟨4, _⟩ => ⟨S160x6144, .bf16⟩
  | .local _ .vmem, ⟨5, _⟩ => ⟨S6x2x256, .i32⟩
  | .local _ .vmem, ⟨6, _⟩ => ⟨S6x2x256, .i32⟩
  | .local _ .vmem, ⟨7, _⟩ => ⟨S6x2x256, .bf16⟩
  | .local _ .vmem, ⟨8, _⟩ => ⟨S6x2x256, .bf16⟩
  | .local _ .vmem, ⟨9, _⟩ => ⟨S2x256x6144, .bf16⟩
  | .local _ .vmem, ⟨10, _⟩ => ⟨S2x256x6144, .bf16⟩
  | .local _ .vmem, ⟨11, _⟩ => ⟨S160x6144, .f32⟩
  | .local _ .vmem, ⟨12, _⟩ => ⟨S2x160x256, .f32⟩
  | .local _ .vmem, ⟨13, _⟩ => ⟨S2x160x256, .f32⟩
  | _, _ => ⟨S2x16384x6144, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x256x6144 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6x2x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x2x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S160x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x160x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x16384x6144 : Shape := ⟨3, ![2, 16384, 6144]⟩
abbrev S2x16384 : Shape := ⟨2, ![2, 16384]⟩
abbrev S6144x160 : Shape := ⟨2, ![6144, 160]⟩
abbrev S2x16384x6 : Shape := ⟨3, ![2, 16384, 6]⟩
abbrev S2x16384x160 : Shape := ⟨3, ![2, 16384, 160]⟩
abbrev S2x16384x1 : Shape := ⟨3, ![2, 16384, 1]⟩
abbrev S_ : Shape := ⟨0, ![]⟩
abbrev S1x1x1x160 : Shape := ⟨4, ![1, 1, 1, 160]⟩
abbrev S2x16384x6x1 : Shape := ⟨4, ![2, 16384, 6, 1]⟩
abbrev S2x16384x6x160 : Shape := ⟨4, ![2, 16384, 6, 160]⟩

abbrev nBuf : Space → Nat
  | .hbm => 54
  | .vmem => 2
  | .smem => 0
  | _ => 0

abbrev bufTy : (tb : Table) → Fin (tcTables nBuf tb) → BufTy
  | .hbm, ⟨0, _⟩ => ⟨S2x16384x6144, .fp8e4m3⟩
  | .hbm, ⟨1, _⟩ => ⟨S2x16384, .f32⟩
  | .hbm, ⟨2, _⟩ => ⟨S6144x160, .bf16⟩
  | .hbm, ⟨3, _⟩ => ⟨S2x16384x6, .i32⟩
  | .hbm, ⟨4, _⟩ => ⟨S2x16384x6, .bf16⟩
  | .hbm, ⟨5, _⟩ => ⟨S2x16384x6144, .bf16⟩
  | .hbm, ⟨6, _⟩ => ⟨S2x16384x160, .f32⟩
  | .hbm, ⟨7, _⟩ => ⟨S2x16384x1, .f32⟩
  | .hbm, ⟨8, _⟩ => ⟨S2x16384x160, .f32⟩
  | .hbm, ⟨9, _⟩ => ⟨S2x16384x160, .f32⟩
  | .hbm, ⟨10, _⟩ => ⟨S_, .f32⟩
  | .hbm, ⟨11, _⟩ => ⟨S2x16384, .f32⟩
  | .hbm, ⟨12, _⟩ => ⟨S_, .f32⟩
  | .hbm, ⟨13, _⟩ => ⟨S2x16384, .f32⟩
  | .hbm, ⟨14, _⟩ => ⟨S2x16384, .f32⟩
  | .hbm, ⟨15, _⟩ => ⟨S2x16384x1, .f32⟩
  | .hbm, ⟨16, _⟩ => ⟨S2x16384x160, .f32⟩
  | .hbm, ⟨17, _⟩ => ⟨S2x16384x160, .f32⟩
  | .hbm, ⟨18, _⟩ => ⟨S2x16384x160, .f32⟩
  | .hbm, ⟨19, _⟩ => ⟨S_, .f32⟩
  | .hbm, ⟨20, _⟩ => ⟨S2x16384, .f32⟩
  | .hbm, ⟨21, _⟩ => ⟨S2x16384x1, .f32⟩
  | .hbm, ⟨22, _⟩ => ⟨S2x16384x160, .f32⟩
  | .hbm, ⟨23, _⟩ => ⟨S2x16384x160, .f32⟩
  | .hbm, ⟨24, _⟩ => ⟨S1x1x1x160, .i32⟩
  | .hbm, ⟨25, _⟩ => ⟨S2x16384x6x1, .i32⟩
  | .hbm, ⟨26, _⟩ => ⟨S2x16384x6x160, .i32⟩
  | .hbm, ⟨27, _⟩ => ⟨S2x16384x6x160, .i32⟩
  | .hbm, ⟨28, _⟩ => ⟨S2x16384x6x160, .i1⟩
  | .hbm, ⟨29, _⟩ => ⟨S2x16384x6, .f32⟩
  | .hbm, ⟨30, _⟩ => ⟨S2x16384x6x1, .f32⟩
  | .hbm, ⟨31, _⟩ => ⟨S_, .f32⟩
  | .hbm, ⟨32, _⟩ => ⟨S_, .f32⟩
  | .hbm, ⟨33, _⟩ => ⟨S2x16384x6x160, .f32⟩
  | .hbm, ⟨34, _⟩ => ⟨S2x16384x6x160, .f32⟩
  | .hbm, ⟨35, _⟩ => ⟨S2x16384x6x160, .f32⟩
  | .hbm, ⟨36, _⟩ => ⟨S_, .f32⟩
  | .hbm, ⟨37, _⟩ => ⟨S2x16384x160, .f32⟩
  | .hbm, ⟨38, _⟩ => ⟨S2x16384x160, .f32⟩
  | .hbm, ⟨39, _⟩ => ⟨S_, .f32⟩
  | .hbm, ⟨40, _⟩ => ⟨S2x16384, .f32⟩
  | .hbm, ⟨41, _⟩ => ⟨S2x16384x1, .f32⟩
  | .hbm, ⟨42, _⟩ => ⟨S2x16384x160, .f32⟩
  | .hbm, ⟨43, _⟩ => ⟨S2x16384x160, .f32⟩
  | .hbm, ⟨44, _⟩ => ⟨S2x16384x160, .f32⟩
  | .hbm, ⟨45, _⟩ => ⟨S2x16384x160, .bf16⟩
  | .hbm, ⟨46, _⟩ => ⟨S2x16384x6144, .f32⟩
  | .hbm, ⟨47, _⟩ => ⟨S2x16384x6144, .bf16⟩
  | .hbm, ⟨48, _⟩ => ⟨S2x16384x160, .f32⟩
  | .hbm, ⟨49, _⟩ => ⟨S2x16384x1, .f32⟩
  | .hbm, ⟨50, _⟩ => ⟨S2x16384x160, .f32⟩
  | .hbm, ⟨51, _⟩ => ⟨S2x16384x160, .f32⟩
  | .hbm, ⟨52, _⟩ => ⟨S2x16384x160, .bf16⟩
  | .hbm, ⟨53, _⟩ => ⟨S6144x160, .f32⟩
  | .local _ .vmem, ⟨0, _⟩ => ⟨S2x16384x6144, .fp8e4m3⟩
  | .local _ .vmem, ⟨1, _⟩ => ⟨S2x16384x6144, .bf16⟩
  | _, _ => ⟨S2x16384x6144, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x16384x6144 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Token.lean ====
/-
  What the backward pass of the router computes for ONE token, over the extended reals.

  A token has a row `x` of 6144 codes, a scale `s`, six expert numbers `id` and six gate gradients `g`; the router's
  weight is `w e d`, expert first. Everything the two programs return is a sum of products of these functions.
-/
module

public import Idealize.ShloMosaic.Lib.Pointwise

@[expose] public section

noncomputable section

namespace Cert.Router

open Idealize.ShloMosaic

/-- One token: its codes, its scale, its six experts and the gradients of its six gates. -/
structure Token where
  x : Fin 6144 → EReal
  s : EReal
  id : Fin 6 → BitVec 32
  g : Fin 6 → EReal

variable (w : Fin 160 → Fin 6144 → EReal) (a : Token)

/-- The token's logit at expert `e`: its row against the expert's weights, times the scale. -/
def logit (e : Fin 160) : EReal := (∑ d : Fin 6144, w e d * a.x d) * a.s

/-- The largest logit (the fold starts at the word both programs write for minus infinity). -/
def top : EReal := Finset.univ.fold max (Ideal.ofBits .f32 0xFF800000#32) (logit w a)

/-- The exponential of the logit less the largest. -/
def expo (e : Fin 160) : EReal := Ideal.exp (logit w a e - top w a)

/-- The softmax probability of expert `e`. -/
def prob (e : Fin 160) : EReal := Ideal.div (expo w a e) (∑ e', expo w a e')

/-- The gradient arriving at expert `e`'s probability: the gate gradients of those of the six slots that name `e`. -/
def gate (e : Fin 160) : EReal :=
  ∑ k : Fin 6, Scalar.select (IntOp.cmpi .eq (a.id k) (BitVec.ofNat 32 e.val)) (a.g k) 0

/-- The gradient of the logits: the softmax's backward pass. -/
def dlogit (e : Fin 160) : EReal := prob w a e * (gate a e - ∑ e', prob w a e' * gate a e')

/-- The gradient of the token's row. -/
def dx (d : Fin 6144) : EReal := ∑ e : Fin 160, dlogit w a e * w e d

/-- What the token adds to the gradient of the weight at expert `e`, column `d`. -/
def dw (e : Fin 160) (d : Fin 6144) : EReal := dlogit w a e * a.s * a.x d

end Cert.Router

end
-- ==== Proof.KernelBlock.lean ====
/-
  What the kernel's body computes on one block of 2 × 256 tokens, one batch row at a time: the printed payloads of a
  batch row, put together, are the functions of `Proof/Token.lean` at each of the row's 256 tokens.
-/
module

public import proofs.«01_k».proof.Proof.Gen.KernelIdeal.Skeleton
public import proofs.«01_k».proof.Proof.Token
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.Router Idealize.ShloMosaic

/-- The expert number of each position of an expert × token block. -/
abbrev experts : IVec S160x256 32 := iota .tc S160x256 32 [0] iota_S160x256_d0_w32

section row

variable (s : Vec Ideal S1x256 .f32) (w : Vec Ideal S160x6144 .bf16) (x : Vec Ideal S1x256x6144 .fp8e4m3)
variable (i : Fin 6 → Vec Ideal S1x1x256 .i32) (g : Fin 6 → Vec Ideal S1x1x256 .bf16)

/-- Token `t` of a batch row, read off the row's loads. -/
abbrev rowToken (t : Fin 256) : Token :=
  ⟨fun d => x (ix3 0 t d), s (ix2 0 t), fun k => i k (ix3 0 0 t), fun k => g k (ix3 0 0 t)⟩

/-- The weight's entries, expert first. -/
abbrev weight : Fin 160 → Fin 6144 → EReal := fun e d => w (ix2 e d)

/-- The logits' gradient of one batch row, as the body computes it for batch row 0. -/
def rowDl : FVec Ideal S160x256 .f32 :=
  k0_pay8 experts (k0_pay4 s w x) (k0_pay6 experts (k0_pay5 (i 0) (g 0)) (i 1) (g 1) (i 2) (g 2) (i 3) (g 3))
    (k0_pay7 experts (i 4)) (g 4) (i 5) (g 5)

/-- The body computes it for batch row 1 by the same operations, cut into payloads at other places. -/
theorem rowDl_second :
    k0_pay19 experts (k0_pay14 s w x)
      (k0_pay17 experts (k0_pay15 experts (i 0) (g 0)) (k0_pay16 experts (i 1)) (g 1) (i 2) (g 2) (i 3) (g 3))
      (k0_pay18 experts (i 4)) (g 4) (i 5) (g 5) = rowDl s w x i g := rfl

theorem prob_apply (e : Fin 160) (t : Fin 256) :
    k0_pay4 (F := Ideal) s w x (ix2 e t) = prob (weight w) (rowToken s x i g t) e := by
  pointwise [k0_pay4]
  rfl

theorem rowDl_apply (e : Fin 160) (t : Fin 256) :
    rowDl s w x i g (ix2 e t) = dlogit (weight w) (rowToken s x i g t) e := by
  unfold rowDl
  pointwise [k0_pay8, k0_pay6, k0_pay5, k0_pay7]
  simp only [prob_apply s w x i g, dlogit, gate, Fin.sum_univ_six]

/-- What the body stores of the logits' gradient, at batch row 0 … -/
theorem storeDl_apply (e : Fin 160) (t : Fin 256) :
    k0_pay9 experts (k0_pay4 s w x) (k0_pay6 experts (k0_pay5 (i 0) (g 0)) (i 1) (g 1) (i 2) (g 2) (i 3) (g 3))
      (k0_pay7 experts (i 4)) (g 4) (i 5) (g 5) (ix3 0 e t) = dlogit (weight w) (rowToken s x i g t) e := by
  pointwise [k0_pay9]
  exact rowDl_apply s w x i g e t

/-- … and at batch row 1. -/
theorem storeDl_second :
    k0_pay20 experts (k0_pay14 s w x)
      (k0_pay17 experts (k0_pay15 experts (i 0) (g 0)) (k0_pay16 experts (i 1)) (g 1) (i 2) (g 2) (i 3) (g 3))
      (k0_pay18 experts (i 4)) (g 4) (i 5) (g 5)
    = k0_pay9 experts (k0_pay4 s w x) (k0_pay6 experts (k0_pay5 (i 0) (g 0)) (i 1) (g 1) (i 2) (g 2) (i 3) (g 3))
      (k0_pay7 experts (i 4)) (g 4) (i 5) (g 5) := rfl

/-- What the body stores of the tokens' gradient, at batch row 0 … -/
theorem storeDx_apply (t : Fin 256) (d : Fin 6144) :
    k0_pay13 (k0_pay12 experts (k0_pay4 s w x)
      (k0_pay6 experts (k0_pay5 (i 0) (g 0)) (i 1) (g 1) (i 2) (g 2) (i 3) (g 3))
      (k0_pay7 experts (i 4)) (g 4) (i 5) (g 5) w) (ix3 0 t d) = dx (weight w) (rowToken s x i g t) d := by
  pointwise [k0_pay13, k0_pay12, k0_pay10]
  exact Finset.sum_congr rfl fun e _ => congrArg (· * w (ix2 e d)) (rowDl_apply s w x i g e t)

/-- … and at batch row 1. -/
theorem storeDx_second :
    k0_pay23 experts (k0_pay14 s w x)
      (k0_pay17 experts (k0_pay15 experts (i 0) (g 0)) (k0_pay16 experts (i 1)) (g 1) (i 2) (g 2) (i 3) (g 3))
      (k0_pay18 experts (i 4)) (g 4) (i 5) (g 5) w
    = k0_pay13 (k0_pay12 experts (k0_pay4 s w x)
      (k0_pay6 experts (k0_pay5 (i 0) (g 0)) (i 1) (g 1) (i 2) (g 2) (i 3) (g 3))
      (k0_pay7 experts (i 4)) (g 4) (i 5) (g 5) w) := rfl

/-- The logits' gradient times the token's scale, the left operand of the weight's gradient, at batch row 0. -/
def rowDls : FVec Ideal S160x256 .bf16 :=
  k0_pay11 experts s (k0_pay4 s w x) (k0_pay6 experts (k0_pay5 (i 0) (g 0)) (i 1) (g 1) (i 2) (g 2) (i 3) (g 3))
    (k0_pay7 experts (i 4)) (g 4) (i 5) (g 5)

/-- At batch row 1 it is the same function of that row's loads. -/
theorem rowDls_second :
    k0_pay22 experts s (k0_pay14 s w x)
      (k0_pay17 experts (k0_pay15 experts (i 0) (g 0)) (k0_pay16 experts (i 1)) (g 1) (i 2) (g 2) (i 3) (g 3))
      (k0_pay18 experts (i 4)) (g 4) (i 5) (g 5) = rowDls s w x i g := rfl

theorem rowDls_apply (e : Fin 160) (t : Fin 256) :
    rowDls s w x i g (ix2 e t) = dlogit (weight w) (rowToken s x i g t) e * s (ix2 0 t) := by
  unfold rowDls
  pointwise [k0_pay11, k0_pay10]
  exact congrArg (· * s (ix2 0 t)) (rowDl_apply s w x i g e t)

/-- One batch row added to the running gradient of the weight (batch row 1: `k0_pay2`, the same function). -/
theorem addDw_apply (acc : Vec Ideal S160x6144 .f32) (e : Fin 160) (d : Fin 6144) :
    k0_pay1 (rowDls s w x i g) acc x (ix2 e d)
      = acc (ix2 e d) + ∑ t : Fin 256, dw (weight w) (rowToken s x i g t) e d := by
  pointwise [k0_pay1]
  exact congrArg (acc (ix2 e d) + ·)
    (Finset.sum_congr rfl fun t _ => congrArg (· * x (ix3 0 t d)) (rowDls_apply s w x i g e t))

theorem addDw_second : k0_pay2 (F := Ideal) = k0_pay1 := rfl

end row

end Cert.KernelIdeal.Block
end
-- ==== Proof.KernelPoint.lean ====
/-
  What the kernel's three outputs hold after one grid point, at an index: the block of the tokens' gradient and of the
  logits' gradient as functions of the block's tokens, and the weight's gradient as what it held before (zero at the
  first point) plus the block's two batch rows.
-/
module

public import proofs.«01_k».proof.Proof.Gen.KernelIdeal.Frame
public import proofs.«01_k».proof.Proof.KernelBlock
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Cert.Router Idealize.ShloMosaic Idealize.ShloMosaic.TcCoe Idealize.SL.Sem

/-! ## A block's tokens, and the loads of one batch row -/

/-- Token `r` of batch row `b` of a block. -/
abbrev blockToken (x0 : Vec Ideal S2x256x6144 .fp8e4m3) (x1 : Vec Ideal S2x256 .f32) (x3 : Vec Ideal S6x2x256 .i32)
    (x4 : Vec Ideal S6x2x256 .bf16) (b : Fin 2) (r : Fin 256) : Token :=
  ⟨fun d => x0 (ix3 b r d), x1 (ix2 b r), fun k => x3 (ix3 k b r), fun k => x4 (ix3 k b r)⟩

/-- The six loads of batch row 0 from the experts' numbers, or from the gates' gradients. -/
def slots0 {e : EltTy} (X : Vec Ideal S6x2x256 e) : Fin 6 → Vec Ideal S1x1x256 e :=
  ![View.ld X (Rect.unit ![0, 0, 0] ![1, 1, 256] inb_S6x2x256_S1x1x256_0_0_0),
    View.ld X (Rect.unit ![1, 0, 0] ![1, 1, 256] inb_S6x2x256_S1x1x256_1_0_0),
    View.ld X (Rect.unit ![2, 0, 0] ![1, 1, 256] inb_S6x2x256_S1x1x256_2_0_0),
    View.ld X (Rect.unit ![3, 0, 0] ![1, 1, 256] inb_S6x2x256_S1x1x256_3_0_0),
    View.ld X (Rect.unit ![4, 0, 0] ![1, 1, 256] inb_S6x2x256_S1x1x256_4_0_0),
    View.ld X (Rect.unit ![5, 0, 0] ![1, 1, 256] inb_S6x2x256_S1x1x256_5_0_0)]

/-- The six loads of batch row 1. -/
def slots1 {e : EltTy} (X : Vec Ideal S6x2x256 e) : Fin 6 → Vec Ideal S1x1x256 e :=
  ![View.ld X (Rect.unit ![0, 1, 0] ![1, 1, 256] inb_S6x2x256_S1x1x256_0_1_0),
    View.ld X (Rect.unit ![1, 1, 0] ![1, 1, 256] inb_S6x2x256_S1x1x256_1_1_0),
    View.ld X (Rect.unit ![2, 1, 0] ![1, 1, 256] inb_S6x2x256_S1x1x256_2_1_0),
    View.ld X (Rect.unit ![3, 1, 0] ![1, 1, 256] inb_S6x2x256_S1x1x256_3_1_0),
    View.ld X (Rect.unit ![4, 1, 0] ![1, 1, 256] inb_S6x2x256_S1x1x256_4_1_0),
    View.ld X (Rect.unit ![5, 1, 0] ![1, 1, 256] inb_S6x2x256_S1x1x256_5_1_0)]

theorem slots0_apply {e : EltTy} (X : Vec Ideal S6x2x256 e) (r : Fin 256) (k : Fin 6) :
    slots0 X k (ix3 0 0 r) = X (ix3 k 0 r) := by
  unfold slots0
  match k with
  | 0 => simp only [Matrix.cons_val]; pointwise
  | 1 => simp only [Matrix.cons_val]; pointwise
  | 2 => simp only [Matrix.cons_val]; pointwise
  | 3 => simp only [Matrix.cons_val]; pointwise
  | 4 => simp only [Matrix.cons_val]; pointwise
  | 5 => simp only [Matrix.cons_val]; pointwise

theorem slots1_apply {e : EltTy} (X : Vec Ideal S6x2x256 e) (r : Fin 256) (k : Fin 6) :
    slots1 X k (ix3 0 0 r) = X (ix3 k 1 r) := by
  unfold slots1
  match k with
  | 0 => simp only [Matrix.cons_val]; pointwise
  | 1 => simp only [Matrix.cons_val]; pointwise
  | 2 => simp only [Matrix.cons_val]; pointwise
  | 3 => simp only [Matrix.cons_val]; pointwise
  | 4 => simp only [Matrix.cons_val]; pointwise
  | 5 => simp only [Matrix.cons_val]; pointwise

section loads

variable (x0 : Vec Ideal S2x256x6144 .fp8e4m3) (x1 : Vec Ideal S2x256 .f32) (x2 : Vec Ideal S160x6144 .bf16)
variable (x3 : Vec Ideal S6x2x256 .i32) (x4 : Vec Ideal S6x2x256 .bf16)

/-- The loads of batch row `0` and `1` from the codes and from the scales. -/
abbrev codes0 : Vec Ideal S1x256x6144 .fp8e4m3 := View.ld x0 (Rect.unit ![0, 0, 0] ![1, 256, 6144] inb_S2x256x6144_S1x256x6144_0_0_0)
abbrev codes1 : Vec Ideal S1x256x6144 .fp8e4m3 := View.ld x0 (Rect.unit ![1, 0, 0] ![1, 256, 6144] inb_S2x256x6144_S1x256x6144_1_0_0)
abbrev scales0 : Vec Ideal S1x256 .f32 := View.ld x1 (Rect.unit ![0, 0] ![1, 256] inb_S2x256_S1x256_0_0)
abbrev scales1 : Vec Ideal S1x256 .f32 := View.ld x1 (Rect.unit ![1, 0] ![1, 256] inb_S2x256_S1x256_1_0)

theorem token0 (r : Fin 256) :
    rowToken (scales0 x1) (codes0 x0) (slots0 x3) (slots0 x4) r = blockToken x0 x1 x3 x4 0 r := by
  simp only [rowToken, slots0_apply, codes0, scales0, blockToken]
  pointwise

theorem token1 (r : Fin 256) :
    rowToken (scales1 x1) (codes1 x0) (slots1 x3) (slots1 x4) r = blockToken x0 x1 x3 x4 1 r := by
  simp only [rowToken, slots1_apply, codes1, scales1, blockToken]
  pointwise

end loads

/-! ## The outputs after one point -/

variable (m : (ℓ : Loc nD τ sig) → Buf (Elt Ideal) ℓ)

/-- Token `r` of batch row `b` of point `t`'s blocks. -/
abbrev pointToken (c : Dev nD) (t : Fin cfg0.N) (b : Fin 2) (r : Fin 256) : Token :=
  blockToken (iblk m c 0 t) (iblk m c 1 t) (iblk m c 3 t) (iblk m c 4 t) b r

/-- The weight as point `t` finds it. -/
abbrev pointWeight (c : Dev nD) (t : Fin cfg0.N) : Fin 160 → Fin 6144 → EReal := weight (iblk m c 2 t)

/-- The block of the tokens' gradient. -/
theorem dx_point (c : Dev nD) (t : Fin cfg0.N) (b : Fin 2) (r : Fin 256) (d : Fin 6144) :
    (outsAt0 m c t.val t.isLt).1 (ix3 b r d) = dx (pointWeight m c t) (pointToken m c t b r) d := by
  by_cases h : t.val % 64 = 0
  all_goals
    first | rw [outsAt0_A m c t h] | rw [outsAt0_B m c t h]
    frame_out
    unfold pointWeight pointToken
    generalize iblk m c 0 t = X0
    generalize iblk m c 1 t = X1
    generalize iblk m c 2 t = X2
    generalize iblk m c 3 t = X3
    generalize iblk m c 4 t = X4
    canon_tiles x h
    · idx_vars x
      obtain rfl : b = 1 := Fin.ext (by simpa using h0)
      obtain rfl : r = x1 := Fin.ext h1
      obtain rfl : d = x2 := Fin.ext h2
      obtain rfl : x0 = 0 := Subsingleton.elim _ _
      refine (congrFun (storeDx_second (scales1 X1) X2 (codes1 X0) (slots1 X3) (slots1 X4)) _).trans ?_
      rw [storeDx_apply, token1]
    · idx_vars x
      obtain rfl : b = 0 := Fin.ext (by simpa using h0)
      obtain rfl : r = x1 := Fin.ext h1
      obtain rfl : d = x2 := Fin.ext h2
      obtain rfl : x0 = 0 := Subsingleton.elim _ _
      refine (storeDx_apply (scales0 X1) X2 (codes0 X0) (slots0 X3) (slots0 X4) _ _).trans ?_
      rw [token0]

/-- The block of the logits' gradient, stored expert before token. -/
theorem dl_point (c : Dev nD) (t : Fin cfg0.N) (b : Fin 2) (e : Fin 160) (r : Fin 256) :
    (outsAt0 m c t.val t.isLt).2.2 (ix3 b e r) = dlogit (pointWeight m c t) (pointToken m c t b r) e := by
  by_cases h : t.val % 64 = 0
  all_goals
    first | rw [outsAt0_A m c t h] | rw [outsAt0_B m c t h]
    frame_out
    unfold pointWeight pointToken
    generalize iblk m c 0 t = X0
    generalize iblk m c 1 t = X1
    generalize iblk m c 2 t = X2
    generalize iblk m c 3 t = X3
    generalize iblk m c 4 t = X4
    canon_tiles x h
    · idx_vars x
      obtain rfl : b = 1 := Fin.ext (by simpa using h0)
      obtain rfl : e = x1 := Fin.ext h1
      obtain rfl : r = x2 := Fin.ext h2
      obtain rfl : x0 = 0 := Subsingleton.elim _ _
      refine (congrFun (storeDl_second (scales1 X1) X2 (codes1 X0) (slots1 X3) (slots1 X4)) _).trans ?_
      rw [storeDl_apply, token1]
    · idx_vars x
      obtain rfl : b = 0 := Fin.ext (by simpa using h0)
      obtain rfl : e = x1 := Fin.ext h1
      obtain rfl : r = x2 := Fin.ext h2
      obtain rfl : x0 = 0 := Subsingleton.elim _ _
      refine (storeDl_apply (scales0 X1) X2 (codes0 X0) (slots0 X3) (slots0 X4) _ _).trans ?_
      rw [token0]

/-- What point `t` adds to the weight's gradient at expert `e`, column `d`: all tokens of its block. -/
def pointDw (c : Dev nD) (t : Fin cfg0.N) (e : Fin 160) (d : Fin 6144) : EReal :=
  ∑ b : Fin 2, ∑ r : Fin 256, dw (pointWeight m c t) (pointToken m c t b r) e d

/-- The two batch rows of one block added, row 0 first, to a running gradient `acc`. -/
theorem addRows (X0 : Vec Ideal S2x256x6144 .fp8e4m3) (X1 : Vec Ideal S2x256 .f32) (X2 : Vec Ideal S160x6144 .bf16)
    (X3 : Vec Ideal S6x2x256 .i32) (X4 : Vec Ideal S6x2x256 .bf16) (acc : Vec Ideal S160x6144 .f32)
    (e : Fin 160) (d : Fin 6144) :
    k0_pay2 (rowDls (scales1 X1) X2 (codes1 X0) (slots1 X3) (slots1 X4))
        (k0_pay1 (rowDls (scales0 X1) X2 (codes0 X0) (slots0 X3) (slots0 X4)) acc (codes0 X0)) (codes1 X0) (ix2 e d)
      = acc (ix2 e d) + ∑ b : Fin 2, ∑ r : Fin 256, dw (weight X2) (blockToken X0 X1 X3 X4 b r) e d := by
  rw [addDw_second, addDw_apply, addDw_apply, Fin.sum_univ_two, add_assoc]
  simp only [token0, token1]

/-- The weight's gradient after the first point: the point's own tokens, over zero. -/
theorem dw_first (c : Dev nD) (t : Fin cfg0.N) (h : t.val % 64 = 0) (e : Fin 160) (d : Fin 6144) :
    (outsAt0 m c t.val t.isLt).2.1 (ix2 e d) = 0 + pointDw m c t e d := by
  rw [outsAt0_A m c t h]
  frame_out
  unfold pointDw pointWeight pointToken
  generalize iblk m c 0 t = X0
  generalize iblk m c 1 t = X1
  generalize iblk m c 2 t = X2
  generalize iblk m c 3 t = X3
  generalize iblk m c 4 t = X4
  refine (addRows X0 X1 X2 X3 X4 (k0_pay3 (F := Ideal)) e d).trans ?_
  congr 1
  pointwise [k0_pay3]

/-- After any later point: what the point before left, and the point's own tokens. -/
theorem dw_next (c : Dev nD) (t : Fin cfg0.N) (h : ¬t.val % 64 = 0) (e : Fin 160) (d : Fin 6144) :
    (outsAt0 m c t.val t.isLt).2.1 (ix2 e d)
      = (outsAt0 m c (t.val - 1) (lt_of_le_of_lt (Nat.sub_le _ _) t.isLt)).2.1 (ix2 e d) + pointDw m c t e d := by
  rw [outsAt0_B m c t h]
  frame_out
  unfold pointDw pointWeight pointToken
  generalize iblk m c 0 t = X0
  generalize iblk m c 1 t = X1
  generalize iblk m c 2 t = X2
  generalize iblk m c 3 t = X3
  generalize iblk m c 4 t = X4
  exact addRows X0 X1 X2 X3 X4 _ e d

end Cert.KernelIdeal.Block

end
-- ==== Proof.KernelArrays.lean ====
/-
  What the kernel's three arrays hold when its grid has run, at an index: functions of the token that the arguments hold
  there, and for the weight's gradient the sum over all tokens.
-/
module

public import proofs.«01_k».proof.Proof.KernelPoint
public import proofs.«01_k».proof.Proof.Gen.KernelIdeal.Run

@[expose] public section

set_option maxRecDepth 16384

noncomputable section

namespace Cert.KernelIdeal.Block

open Cert.KernelIdeal Cert.KernelIdeal.Gen Cert.Router Idealize.ShloMosaic Idealize.ShloMosaic.TcCoe Idealize.SL.Sem

variable (m : (ℓ : Loc nD τ sig) → Buf (Elt Ideal) ℓ)

/-- Token `s` of batch row `b` of the arguments. -/
def token (c : Dev nD) (b : Fin 2) (s : Fin 16384) : Token :=
  ⟨fun d => m ((c : Thread nD τ).loc main_arg0) (ix3 b s d), m ((c : Thread nD τ).loc main_arg1) (ix2 b s),
    fun k => m ((c : Thread nD τ).loc main_arg3) (ix3 b s k), fun k => m ((c : Thread nD τ).loc main_arg4) (ix3 b s k)⟩

/-- The router's weight as the arguments hold it, read expert first. -/
def argWeight (c : Dev nD) : Fin 160 → Fin 6144 → EReal :=
  fun e d => m ((c : Thread nD τ).loc main_arg2) (ix2 d e)

/-- Where each window's block lies at a grid point. -/
theorem idx : ∀ t : Fin cfg0.N, win0_0.index t = ![0, t.val, 0] ∧ win0_1.index t = ![0, t.val] ∧
    win0_2.index t = ![0, 0] ∧ win0_3.index t = ![0, 0, t.val] ∧ win0_4.index t = ![0, 0, t.val] ∧
    win0_5.index t = ![0, t.val, 0] ∧ win0_6.index t = ![0, 0] ∧ win0_7.index t = ![0, 0, t.val] := by
  decide +kernel

/-- The token of the arguments that is token `r` of point `t`'s block. -/
abbrev tokenAt (t : Fin cfg0.N) (r : Fin 256) : Fin 16384 :=
  ⟨t.val * 256 + r.val, by have h : t.val < 64 := t.isLt; omega⟩

theorem codes_read (c : Dev nD) (t : Fin cfg0.N) (b : Fin 2) (r : Fin 256) (d : Fin 6144) :
    (iblk m c 0 t : Vec Ideal S2x256x6144 .fp8e4m3) (ix3 b r d) = m ((c : Thread nD τ).loc main_arg0) (ix3 b (tokenAt t r) d) := by
  blk_ext! [iblk, V, idx t]

theorem scales_read (c : Dev nD) (t : Fin cfg0.N) (b : Fin 2) (r : Fin 256) :
    (iblk m c 1 t : Vec Ideal S2x256 .f32) (ix2 b r) = m ((c : Thread nD τ).loc main_arg1) (ix2 b (tokenAt t r)) := by
  blk_ext! [iblk, V, idx t]

/-- The three arrays that the host makes before the kernel: transposes of arguments. -/
theorem weightT (c : Dev nD) : V m c main_v0 =
    transpose S160x6144 [1, 0] (m ((c : Thread nD τ).loc main_arg2)) transposes_S6144x160_S160x6144_1_0 := by
  simp only [V, V0, hostOps0, List.flatten_cons, List.flatten_nil, List.append_nil]
  after_results_simp

theorem idsT (c : Dev nD) : V m c main_v1 =
    transpose S6x2x16384 [2, 0, 1] (m ((c : Thread nD τ).loc main_arg3)) transposes_S2x16384x6_S6x2x16384_2_0_1 := by
  simp only [V, V0, hostOps0, List.flatten_cons, List.flatten_nil, List.append_nil]
  after_results_simp

theorem gatesT (c : Dev nD) : V m c main_v2 =
    transpose S6x2x16384 [2, 0, 1] (m ((c : Thread nD τ).loc main_arg4)) transposes_S2x16384x6_S6x2x16384_2_0_1 := by
  simp only [V, V0, hostOps0, List.flatten_cons, List.flatten_nil, List.append_nil]
  after_results_simp

theorem weight_read (c : Dev nD) (t : Fin cfg0.N) (e : Fin 160) (d : Fin 6144) :
    (iblk m c 2 t : Vec Ideal S160x6144 .bf16) (ix2 e d) = m ((c : Thread nD τ).loc main_arg2) (ix2 d e) := by
  have h : (iblk m c 2 t : Vec Ideal S160x6144 .bf16) (ix2 e d) = V m c main_v0 (ix2 e d) := by
    blk_ext [iblk, idx t]
  rw [h, weightT]
  pointwise

theorem ids_read (c : Dev nD) (t : Fin cfg0.N) (b : Fin 2) (r : Fin 256) (k : Fin 6) :
    (iblk m c 3 t : Vec Ideal S6x2x256 .i32) (ix3 k b r) = m ((c : Thread nD τ).loc main_arg3) (ix3 b (tokenAt t r) k) := by
  have h : (iblk m c 3 t : Vec Ideal S6x2x256 .i32) (ix3 k b r) = V m c main_v1 (ix3 k b (tokenAt t r)) := by
    blk_ext [iblk, idx t]
  rw [h, idsT]
  pointwise

theorem gates_read (c : Dev nD) (t : Fin cfg0.N) (b : Fin 2) (r : Fin 256) (k : Fin 6) :
    (iblk m c 4 t : Vec Ideal S6x2x256 .bf16) (ix3 k b r) = m ((c : Thread nD τ).loc main_arg4) (ix3 b (tokenAt t r) k) := by
  have h : (iblk m c 4 t : Vec Ideal S6x2x256 .bf16) (ix3 k b r) = V m c main_v2 (ix3 k b (tokenAt t r)) := by
    blk_ext [iblk, idx t]
  rw [h, gatesT]
  pointwise

theorem pointToken_eq (c : Dev nD) (t : Fin cfg0.N) (b : Fin 2) (r : Fin 256) :
    pointToken m c t b r = token m c b (tokenAt t r) := by
  simp only [pointToken, blockToken, token, codes_read, scales_read, ids_read, gates_read]

theorem pointWeight_eq (c : Dev nD) (t : Fin cfg0.N) : pointWeight m c t = argWeight m c := by
  funext e d
  exact weight_read m c t e d

/-! ## The arrays -/

/-- The tokens' gradient. -/
def dxArray (c : Dev nD) : Vec Ideal S2x16384x6144 .bf16 :=
  fun i => dx (argWeight m c) (token m c (i 0) (i 1)) (i 2)

/-- The logits' gradient, expert before token. -/
def dlArray (c : Dev nD) : Vec Ideal S2x160x16384 .f32 :=
  fun i => dlogit (argWeight m c) (token m c (i 0) (i 2)) (i 1)

/-- The weight's gradient, expert before column. -/
def dwArray (c : Dev nD) : Vec Ideal S160x6144 .f32 :=
  fun i => ∑ b : Fin 2, ∑ s : Fin 16384, dw (argWeight m c) (token m c b s) (i 0) (i 1)

theorem dx_array (c : Dev nD) : (dats m 0 c).arrAt 5 cfg0.N = dxArray m c := by
  refine (dats m 0 c).arrAt_eq_of_covers 5 _ (by decide +kernel) fun t hf y => ?_
  blk_simp
  rw [after0_5]
  idx_vars y
  refine (dx_point m c t y0 y1 y2).trans ?_
  rw [pointToken_eq, pointWeight_eq]
  unfold dxArray
  have e0 : (((cfg0.win 5).blk t).view.emb (ix3 y0 y1 y2)) = ix3 y0 (tokenAt t y1) y2 := by
    blk_ext [idx t]
  rw [e0]
  rfl

theorem dl_array (c : Dev nD) : (dats m 0 c).arrAt 7 cfg0.N = dlArray m c := by
  refine (dats m 0 c).arrAt_eq_of_covers 7 _ (by decide +kernel) fun t hf y => ?_
  blk_simp
  rw [after0_7]
  idx_vars y
  refine (dl_point m c t y0 y1 y2).trans ?_
  rw [pointToken_eq, pointWeight_eq]
  unfold dlArray
  have e0 : (((cfg0.win 7).blk t).view.emb (ix3 y0 y1 y2)) = ix3 y0 y1 (tokenAt t y2) := by
    blk_ext [idx t]
  rw [e0]
  rfl

/-- The last grid point. -/
abbrev lastPoint : Fin cfg0.N := ⟨63, by decide⟩

/-- After the last point the accumulator holds the sum over the points. -/
theorem dw_sum (c : Dev nD) (e : Fin 160) (d : Fin 6144) :
    (outsAt0 m c lastPoint.val lastPoint.isLt).2.1 (ix2 e d) = 0 + ∑ p : Fin cfg0.N, pointDw m c p e d :=
  Pipeline.eq_sum_fin_of_reset_step_apply_last
    (fun n h (i : Fin 160 × Fin 6144) => (outsAt0 m c n h).2.1 (ix2 i.1 i.2)) 64 (fun _ => 0)
    (fun p i => pointDw m c p i.1 i.2) (fun t h i => dw_first m c t h i.1 i.2) (fun t h i => dw_next m c t h i.1 i.2)
    (by decide) lastPoint rfl (e, d)

theorem dw_array (c : Dev nD) : (dats m 0 c).arrAt 6 cfg0.N = dwArray m c := by
  refine (dats m 0 c).arrAt_eq_of_after_last 6 lastPoint (by decide +kernel) _ fun j => ?_
  blk_simp
  rw [after0_6]
  idx_vars j
  refine (dw_sum m c j0 j1).trans ?_
  rw [zero_add]
  simp only [dwArray, pointDw, pointToken_eq, pointWeight_eq]
  rw [Finset.sum_comm]
  refine Finset.sum_congr rfl fun b _ => ?_
  exact Fin.sum_mul_add_fin 64 256 (fun s : Fin 16384 => dw (argWeight m c) (token m c b s) j0 j1)

end Cert.KernelIdeal.Block

end
-- ==== Proof.ReferenceValue.lean ====
/-
  What the reference computes, at an index: the same functions of a token as the kernel, from the codes that its first
  call has cast and the other four arguments.
-/
module

public import proofs.«01_k».proof.Proof.Gen.ReferenceIdeal.Run
public import proofs.«01_k».proof.Proof.Gen.ReferenceIdeal.Read
public import proofs.«01_k».proof.Proof.Token
public import Idealize.ShloMosaic.Lib.Pointwise
public import Idealize.ShloMosaic.Lib.Pipeline.ValueKit

@[expose] public section

set_option maxRecDepth 16384

noncomputable section

namespace Cert.ReferenceIdeal.Math

open Cert.ReferenceIdeal Cert.ReferenceIdeal.Gen Cert.ReferenceIdeal.Read Cert.Router
open Idealize.ShloMosaic Idealize.ShloMosaic.TcCoe Idealize.SL.Sem

section stages

variable (x1 : Vec Ideal S2x16384 .f32) (x2 : Vec Ideal S6144x160 .bf16) (x3 : Vec Ideal S2x16384x6 .i32)
variable (x4 : Vec Ideal S2x16384x6 .bf16) (r0 : Vec Ideal S2x16384x6144 .bf16)

/-- Token `s` of batch row `b`. -/
abbrev tok (b : Fin 2) (s : Fin 16384) : Token :=
  ⟨fun d => r0 (ix3 b s d), x1 (ix2 b s), fun k => x3 (ix3 b s k), fun k => x4 (ix3 b s k)⟩

/-- The router's weight, read expert first. -/
abbrev wgt : Fin 160 → Fin 6144 → EReal := fun e d => x2 (ix2 d e)

theorem logit_apply (b : Fin 2) (s : Fin 16384) (e : Fin 160) :
    val_main_v4 x1 x2 r0 (ix3 b s e) = logit (wgt x2) (tok x1 x3 x4 r0 b s) e := by
  unfold val_main_v4 val_main_v1 val_main_v3 val_main_v2
  pointwise
  dsimp only [logit, wgt, tok]
  simp only [mul_comm (x2 _)]

/-- The largest over the experts, from the constant the fold starts at. -/
theorem largest (L : FVec Ideal S2x16384x160 .f32) (b : Fin 2) (s : Fin 16384) :
    (Host.reduce FloatOps.maximumf L (constant (F := Ideal) S_ .f32 0xFF800000#32)
      reducesTo_S2x16384x160_S2x16384_d2 h_S_ : FVec Ideal S2x16384 .f32) (ix2 b s) =
      Finset.univ.fold max (Ideal.ofBits .f32 0xFF800000#32) fun e => L (ix3 b s e) := by
  pointwise

theorem top_apply (b : Fin 2) (s : Fin 16384) :
    val_main_v7 x1 x2 r0 (ix2 b s) = top (wgt x2) (tok x1 x3 x4 r0 b s) := by
  have h := fun e => logit_apply x1 x2 x3 x4 r0 b s e
  have h5 : val_main_v5 x1 x2 r0 (ix2 b s) = top (wgt x2) (tok x1 x3 x4 r0 b s) := by
    unfold top
    simp only [← h]
    exact largest _ b s
  rw [val_main_v7_apply, h5, val_main_v6_apply, val_main_cst_0_apply]
  exact max_eq_right ((Finset.le_fold_max _).mpr (Or.inl le_rfl))

theorem expo_apply (b : Fin 2) (s : Fin 16384) (e : Fin 160) :
    val_main_v11 x1 x2 r0 (ix3 b s e) = expo (wgt x2) (tok x1 x3 x4 r0 b s) e := by
  have h := logit_apply x1 x2 x3 x4 r0 b s e
  have h' := top_apply x1 x2 x3 x4 r0 b s
  unfold val_main_v11 val_main_v10 val_main_v9 val_main_v8 expo
  rw [← h, ← h']
  generalize val_main_v4 x1 x2 r0 = L
  generalize val_main_v7 x1 x2 r0 = M
  pointwise

theorem prob_apply (b : Fin 2) (s : Fin 16384) (e : Fin 160) :
    val_main_v15 x1 x2 r0 (ix3 b s e) = prob (wgt x2) (tok x1 x3 x4 r0 b s) e := by
  have h := fun e => expo_apply x1 x2 x3 x4 r0 b s e
  unfold val_main_v15 val_main_v14 val_main_v13 val_main_v12 val_main_cst_1 prob
  simp only [← h]
  generalize val_main_v11 x1 x2 r0 = L
  pointwise

theorem gate_apply (b : Fin 2) (s : Fin 16384) (e : Fin 160) :
    val_main_v24 x3 x4 (ix3 b s e) = gate (tok x1 x3 x4 r0 b s) e := by
  unfold val_main_v24 val_main_cst_3 val_main_v23 val_main_v20 val_main_v18 val_main_v19 val_main_v17 val_main_v16
    val_main_call0_v1 val_main_call0_v2 val_main_v22 val_main_v21 val_main_call0_v0 val_main_cst_2 gate
  simp only [id_eq]
  pointwise

theorem dlogit_apply (b : Fin 2) (s : Fin 16384) (e : Fin 160) :
    val_main_v30 x1 x2 x3 x4 r0 (ix3 b s e) = dlogit (wgt x2) (tok x1 x3 x4 r0 b s) e := by
  have h := fun e => prob_apply x1 x2 x3 x4 r0 b s e
  have h' := fun e => gate_apply x1 x3 x4 r0 b s e
  unfold val_main_v30 val_main_v29 val_main_v28 val_main_v27 val_main_v26 val_main_v25 val_main_cst_4 dlogit
  simp only [← h, ← h']
  generalize val_main_v15 x1 x2 r0 = P
  generalize val_main_v24 x3 x4 = D
  pointwise

theorem dx_apply (b : Fin 2) (s : Fin 16384) (d : Fin 6144) :
    val_main_v33 x1 x2 x3 x4 r0 (ix3 b s d) = dx (wgt x2) (tok x1 x3 x4 r0 b s) d := by
  have h := fun e => dlogit_apply x1 x2 x3 x4 r0 b s e
  unfold val_main_v33 val_main_v32 val_main_v31 dx
  simp only [← h]
  generalize val_main_v30 x1 x2 x3 x4 r0 = L
  pointwise

theorem scaled_apply (b : Fin 2) (s : Fin 16384) (e : Fin 160) :
    val_main_v38 x1 x2 x3 x4 r0 (ix3 b s e) = dlogit (wgt x2) (tok x1 x3 x4 r0 b s) e * x1 (ix2 b s) := by
  rw [← dlogit_apply]
  unfold val_main_v38 val_main_v37 val_main_v36 val_main_v35 val_main_v34 val_main_v31
  generalize val_main_v30 x1 x2 x3 x4 r0 = L
  pointwise

/-- The contraction over both token axes. -/
theorem contract_tokens (x : FVec Ideal S2x16384x6144 .bf16) (y : FVec Ideal S2x16384x160 .bf16) (e : Fin 160) (d : Fin 6144) :
    (Host.dotGeneral dot_S2x16384x6144_S2x16384x160_S6144x160_01_01_2_2_n_n none x y : FVec Ideal S6144x160 .f32) (ix2 d e) =
      ∑ b : Fin 2, ∑ s : Fin 16384, y (ix3 b s e) * x (ix3 b s d) := by
  pointwise
  simp only [mul_comm (x _)]

theorem dw_apply (e : Fin 160) (d : Fin 6144) :
    val_main_v39 x1 x2 x3 x4 r0 (ix2 d e) =
      ∑ b : Fin 2, ∑ s : Fin 16384, dw (wgt x2) (tok x1 x3 x4 r0 b s) e d := by
  refine (contract_tokens r0 (val_main_v38 x1 x2 x3 x4 r0) e d).trans ?_
  simp only [scaled_apply, dw]

end stages

variable (m : (ℓ : Loc nD τ sig) → Buf (Elt Ideal) ℓ)

theorem idx : ∀ t : Fin cfg0.N, win0_0.index t = ![0, 0, 0] ∧ win0_1.index t = ![0, 0, 0] := by
  decide +kernel

/-- The first call casts the codes, which over the extended reals leaves them as they are. -/
theorem codes (c : Dev nD) (b : Fin 2) (s : Fin 16384) (d : Fin 6144) :
    (Value.reg_main_v0 m c : Vec Ideal S2x16384x6144 .bf16) (ix3 b s d)
      = m ((c : Thread nD τ).loc main_arg0) (ix3 b s d) := by
  have h : Value.reg_main_v0 m c = fun i => m ((c : Thread nD τ).loc main_arg0) i := by
    unfold Value.reg_main_v0
    refine (dats m 0 c).arrAt_eq_of_after_last 1 t0_0 (by decide +kernel) _ fun j => ?_
    blk_simp
    rw [after0_1]
    frame_out
    idx_vars j
    pointwise [k0_pay1]
    blk_point [iblk, V, idx t0_0]
  rw [h]

/-! ## The results, from the arguments -/

/-- Token `s` of batch row `b` of the arguments. -/
def token (c : Dev nD) (b : Fin 2) (s : Fin 16384) : Token :=
  ⟨fun d => m ((c : Thread nD τ).loc main_arg0) (ix3 b s d), m ((c : Thread nD τ).loc main_arg1) (ix2 b s),
    fun k => m ((c : Thread nD τ).loc main_arg3) (ix3 b s k), fun k => m ((c : Thread nD τ).loc main_arg4) (ix3 b s k)⟩

/-- The router's weight as the arguments hold it, read expert first. -/
def argWeight (c : Dev nD) : Fin 160 → Fin 6144 → EReal :=
  fun e d => m ((c : Thread nD τ).loc main_arg2) (ix2 d e)

theorem tok_eq (c : Dev nD) (b : Fin 2) (s : Fin 16384) :
    tok (m ((c : Thread nD τ).loc main_arg1)) (m ((c : Thread nD τ).loc main_arg3)) (m ((c : Thread nD τ).loc main_arg4))
      (Value.reg_main_v0 m c) b s = token m c b s := by
  simp only [tok, token, codes]

theorem dx_result (c : Dev nD) (b : Fin 2) (s : Fin 16384) (d : Fin 6144) :
    (Value.res_main_v33 m c : Vec Ideal S2x16384x6144 .bf16) (ix3 b s d) = dx (argWeight m c) (token m c b s) d := by
  have h := val_main_v33_eq (F := Ideal) (Value.exitV m c)
  rw [Value.exit_main_arg1, Value.exit_main_arg2, Value.exit_main_arg3, Value.exit_main_arg4, Value.exit_main_v0] at h
  refine (congrFun (show Value.res_main_v33 m c = _ from h) _).trans ?_
  rw [dx_apply, tok_eq]
  rfl

theorem dlogit_result (c : Dev nD) (b : Fin 2) (s : Fin 16384) (e : Fin 160) :
    (Value.res_main_v30 m c : Vec Ideal S2x16384x160 .f32) (ix3 b s e) = dlogit (argWeight m c) (token m c b s) e := by
  have h := val_main_v30_eq (F := Ideal) (Value.exitV m c)
  rw [Value.exit_main_arg1, Value.exit_main_arg2, Value.exit_main_arg3, Value.exit_main_arg4, Value.exit_main_v0] at h
  refine (congrFun (show Value.res_main_v30 m c = _ from h) _).trans ?_
  rw [dlogit_apply, tok_eq]
  rfl

theorem dw_result (c : Dev nD) (d : Fin 6144) (e : Fin 160) :
    (Value.res_main_v39 m c : Vec Ideal S6144x160 .f32) (ix2 d e) =
      ∑ b : Fin 2, ∑ s : Fin 16384, dw (argWeight m c) (token m c b s) e d := by
  have h := val_main_v39_eq (F := Ideal) (Value.exitV m c)
  rw [Value.exit_main_arg1, Value.exit_main_arg2, Value.exit_main_arg3, Value.exit_main_arg4, Value.exit_main_v0] at h
  refine (congrFun (show Value.res_main_v39 m c = _ from h) _).trans ?_
  rw [dw_apply]
  simp only [tok_eq]
  rfl

end Cert.ReferenceIdeal.Math

end
-- ==== Proof.Equation.lean ====
/-
  The two programs' results are equal: both are the same functions of the arguments' tokens, and the memories agree on
  the arguments.
-/
module

public import proofs.«01_k».proof.Defs
public import proofs.«01_k».proof.Proof.Gen.KernelIdeal.Run
public import proofs.«01_k».proof.Proof.KernelArrays
public import proofs.«01_k».proof.Proof.ReferenceValue

@[expose] public section

set_option maxRecDepth 16384

noncomputable section

namespace Cert.Equation

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'} {c : Dev Cert.KernelIdeal.nD} (h : Agree m m' c)

include h

theorem token_eq (b : Fin 2) (s : Fin 16384) :
    Cert.ReferenceIdeal.Math.token m' c b s = Cert.KernelIdeal.Block.token m c b s := by
  obtain ⟨h0, h1, -, h3, h4⟩ := h
  unfold Cert.ReferenceIdeal.Math.token Cert.KernelIdeal.Block.token
  rw [h0, h1, h3, h4]

theorem weight_eq : Cert.ReferenceIdeal.Math.argWeight m' c = Cert.KernelIdeal.Block.argWeight m c := by
  unfold Cert.ReferenceIdeal.Math.argWeight Cert.KernelIdeal.Block.argWeight
  rw [h.2.2.1]

/-- The tokens' gradient. -/
theorem dx_eq : Cert.ReferenceIdeal.Value.res_main_v33 m' c = Cert.KernelIdeal.Value.reg_main_v3_0 m c := by
  refine Eq.trans ?_ (Cert.KernelIdeal.Block.dx_array m c).symm
  funext i
  idx_vars i
  refine (Cert.ReferenceIdeal.Math.dx_result m' c i0 i1 i2).trans ?_
  rw [token_eq h, weight_eq h]
  rfl

/-- The weight's gradient, which the kernel's host transposes. -/
theorem dw_eq : Cert.ReferenceIdeal.Value.res_main_v39 m' c =
    transpose Cert.KernelIdeal.S6144x160 [1, 0] (Cert.KernelIdeal.Value.reg_main_v3_1 m c)
      Cert.KernelIdeal.Facts₀.transposes_S160x6144_S6144x160_1_0 := by
  rw [show Cert.KernelIdeal.Value.reg_main_v3_1 m c = _ from Cert.KernelIdeal.Block.dw_array m c]
  funext i
  idx_vars i
  refine (Cert.ReferenceIdeal.Math.dw_result m' c i0 i1).trans ?_
  simp only [token_eq h, weight_eq h]
  have e : (transpose Cert.KernelIdeal.S6144x160 [1, 0] (Cert.KernelIdeal.Block.dwArray m c)
      Cert.KernelIdeal.Facts₀.transposes_S160x6144_S6144x160_1_0) (ix2 i0 i1) = Cert.KernelIdeal.Block.dwArray m c (ix2 i1 i0) := by
    pointwise
  exact e.symm

/-- The logits' gradient, which the kernel's host transposes. -/
theorem dlogit_eq : Cert.ReferenceIdeal.Value.res_main_v30 m' c =
    transpose Cert.KernelIdeal.S2x16384x160 [0, 2, 1] (Cert.KernelIdeal.Value.reg_main_v3_2 m c)
      Cert.KernelIdeal.Facts₀.transposes_S2x160x16384_S2x16384x160_0_2_1 := by
  rw [show Cert.KernelIdeal.Value.reg_main_v3_2 m c = _ from Cert.KernelIdeal.Block.dl_array m c]
  funext i
  idx_vars i
  refine (Cert.ReferenceIdeal.Math.dlogit_result m' c i0 i1 i2).trans ?_
  rw [token_eq h, weight_eq h]
  have e : (transpose Cert.KernelIdeal.S2x16384x160 [0, 2, 1] (Cert.KernelIdeal.Block.dlArray m c)
      Cert.KernelIdeal.Facts₀.transposes_S2x160x16384_S2x16384x160_0_2_1) (ix3 i0 i1 i2)
        = Cert.KernelIdeal.Block.dlArray m c (ix3 i0 i2 i1) := by
    pointwise
  exact e.symm

omit h

/-- The kernel and the reference, from memories that agree on the arguments, end with equal results. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨_, _, _, Cert.KernelIdeal.Value.run m g, ?_⟩
  refine (θ_run _ _ _).mono (fun r hr c => ?_) (Cert.ReferenceIdeal.Value.run m' g')
  obtain ⟨h0, h1, h2, h3⟩ := hr c
  exact ⟨h0.trans (dx_eq (hagree c)), h1.trans (dw_eq (hagree c)), h2.trans (dlogit_eq (hagree c)), h3⟩

end Cert.Equation

end
-- ==== Proof.lean ====
/-
  The claim about the router's backward pass, assembled: the three frames are the generated ones, the idealized kernel is
  the printed kernel's own text, and `Cert.Equation.algebraic` is the equality of the results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Run
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the three frames, the idealization, and the equality of the results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Equation.algebraic⟩

end Cert.Proof

end
